-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sqrt_half" .f32 0x3F3504F3#32 ((Real.sqrt (1 / 2) : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S16384x64 : Shape := ⟨2, ![16384, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_cst_6 : FVec F S_ .f32 := constant S_ .f32 0x7F800000#32
  let main_v19 : FVec F S128 .f32 := broadcastInDim S128 ![] bcast_S_S128 main_cst_6
  let main_v20 : IVec S128 1 := cmpf .olt main_arg4 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v18 main_v21
  let main_cst_8 : FVec F S_ .f32 := constant S_ .f32 0xFF800000#32
  let main_v23 : FVec F S128 .f32 := broadcastInDim S128 ![] bcast_S_S128 main_cst_8
  let main_v24 : IVec S128 1 := cmpf .ogt main_arg4 main_v23
  let main_c_9 : IVec S_ 1 := constantI S_ 1 0#1
  let main_v25 : IVec S_ 1 := (fun x v => Host.reduce IntOp.ori x v reducesTo_S128_S_d0 h_S_) main_v24 main_c_9
  let main_v26 : IVec S_ 1 := andi main_v22 main_v25
  main_v26

def fn {F : FTy → Type} [FloatOps F] (main_arg0 : FVec F S16384x64 .f32) (main_arg1 : FVec F S64x64 .f32) (main_arg2 : FVec F S64 .f32) (main_arg3 : FVec F S64x128 .f32) (main_arg4 : FVec F S128 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_v13 main_v16
-- ==== Kernel.lean ====
abbrev S16384x64 : Shape := ⟨2, ![16384, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S1x64 : Shape := ⟨2, ![1, 64]⟩
abbrev S1x128 : Shape := ⟨2, ![1, 128]⟩
abbrev S16384x128 : Shape := ⟨2, ![16384, 128]⟩
abbrev S8192x64 : Shape := ⟨2, ![8192, 64]⟩
abbrev S8192x128 : Shape := ⟨2, ![8192, 128]⟩
abbrev S8192 : Shape := ⟨1, ![8192]⟩
abbrev S8192x1 : Shape := ⟨2, ![8192, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S1x64, .f32⟩
  | .hbm, ⟨6, _⟩ => ⟨S1x128, .f32⟩
  | .hbm, ⟨7, _⟩ => ⟨S16384x128, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S1x64, .f32⟩
  | .local _ .vmem, ⟨4, _⟩ => ⟨S64x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "sqrt_half" => some ((Real.sqrt (1 / 2) : ℝ) : EReal)
  | _ => none
-- ==== ReferenceIdeal.lean ====
abbrev S16384x64 : Shape := ⟨2, ![16384, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S1x64 : Shape := ⟨2, ![1, 64]⟩
abbrev S_ : Shape := ⟨0, ![]⟩
abbrev S16384x128 : Shape := ⟨2, ![16384, 128]⟩
abbrev S1x128 : Shape := ⟨2, ![1, 128]⟩
abbrev S16384 : Shape := ⟨1, ![16384]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S16384x128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384x1, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x128, .f32⟩
  | .hbm, ⟨36, _⟩ => ⟨S16384x128, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Softmax.lean ====
/- The softmax over the extended reals, and why its shift by the maximum changes nothing. -/
module

public import Idealize.ShloMosaic.PureOps.Ideal
public import Idealize.ShloMosaic.PureOps.Ideal.Laws

@[expose] public section

noncomputable section

open Idealize.ShloMosaic

namespace Cert.Softmax

/-- The exponential of an extended real below plus infinity, as a real: zero at minus infinity. -/
def weight (l : EReal) : ℝ := if l = ⊥ then 0 else Real.exp l.toReal

theorem weight_nonneg (l : EReal) : 0 ≤ weight l := by
  unfold weight; split
  · exact le_rfl
  · exact (Real.exp_pos _).le

theorem weight_pos {l : EReal} (h : l ≠ ⊥) : 0 < weight l := by
  unfold weight; rw [if_neg h]; exact Real.exp_pos _

/-- Below plus infinity the exponential is that real. -/
theorem exp_eq_weight {l : EReal} (h : l ≠ ⊤) : Ideal.exp l = (weight l : EReal) := by
  induction l with
  | bot => rw [Ideal.exp_bot]; simp [weight]
  | top => exact absurd rfl h
  | coe r => rw [Ideal.exp_coe]; simp [weight]

/-- Subtracting a real from the exponent divides the exponential by the real's. -/
theorem exp_sub_eq {l : EReal} (h : l ≠ ⊤) (μ : ℝ) : Ideal.exp (l - μ) = ((weight l * Real.exp (-μ) : ℝ) : EReal) := by
  induction l with
  | bot => rw [EReal.bot_sub, Ideal.exp_bot]; simp [weight]
  | top => exact absurd rfl h
  | coe r =>
    rw [← EReal.coe_sub, Ideal.exp_coe]
    simp [weight, ← Real.exp_add, sub_eq_add_neg]

/-- A finite sum of reals, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Shifting all exponents of a softmax by one real changes nothing, if no exponent is plus infinity and one at
    least is a real. On the left the quotient is a product with the reciprocal of the sum. -/
theorem shift_real {n : ℕ} (L : Fin n → EReal) (hT : ∀ k, L k ≠ ⊤) (hB : ∃ k, L k ≠ ⊥) (μ : ℝ) (j : Fin n) :
    Ideal.exp (L j) * Ideal.div 1 (∑ k, Ideal.exp (L k))
      = Ideal.div (Ideal.exp (L j - μ)) (∑ k, Ideal.exp (L k - μ)) := by
  obtain ⟨k₀, hk₀⟩ := hB
  have hS : 0 < ∑ k, weight (L k) :=
    Finset.sum_pos' (fun k _ => weight_nonneg _) ⟨k₀, Finset.mem_univ _, weight_pos hk₀⟩
  have he : 0 < Real.exp (-μ) := Real.exp_pos _
  have hS' : 0 < ∑ k, weight (L k) * Real.exp (-μ) := by rw [← Finset.sum_mul]; exact mul_pos hS he
  simp only [exp_sub_eq (hT _), exp_eq_weight (hT _), coe_sum]
  have h₀ : ∀ {s : ℝ}, 0 < s → ((s : ℝ) : EReal) ≠ 0 := fun h => by exact_mod_cast h.ne'
  unfold Ideal.div
  rw [if_neg (h₀ hS), if_neg (h₀ hS'), one_mul, ← EReal.coe_inv, ← EReal.coe_inv, ← EReal.coe_mul, ← EReal.coe_mul,
    ← Finset.sum_mul]
  congr 1
  field_simp

/-- The running maximum that starts at minus infinity is a real, if no entry is plus infinity and one is a real. -/
theorem max_real {n : ℕ} (L : Fin n → EReal) (hT : ∀ k, L k ≠ ⊤) (hB : ∃ k, L k ≠ ⊥) :
    ∃ μ : ℝ, Finset.univ.fold max (⊥ : EReal) L = μ := by
  obtain ⟨k₀, hk₀⟩ := hB
  have h₁ : Finset.univ.fold max (⊥ : EReal) L ≠ ⊤ := by
    have : Finset.univ.fold max (⊥ : EReal) L < ⊤ :=
      Finset.fold_max_lt _ |>.mpr ⟨bot_lt_top, fun k _ => lt_top_iff_ne_top.mpr (hT k)⟩
    exact this.ne
  have h₂ : Finset.univ.fold max (⊥ : EReal) L ≠ ⊥ := by
    have : ⊥ < Finset.univ.fold max (⊥ : EReal) L :=
      Finset.lt_fold_max _ |>.mpr (.inr ⟨k₀, Finset.mem_univ _, bot_lt_iff_ne_bot.mpr hk₀⟩)
    exact this.ne'
  exact ⟨_, (EReal.coe_toReal h₁ h₂).symm⟩

/-- The softmax with its exponents shifted by their maximum is the softmax without the shift. -/
theorem shift_max {n : ℕ} (L : Fin n → EReal) (hT : ∀ k, L k ≠ ⊤) (hB : ∃ k, L k ≠ ⊥) (j : Fin n) :
    Ideal.exp (L j) * Ideal.div 1 (∑ k, Ideal.exp (L k))
      = Ideal.div (Ideal.exp (L j - Finset.univ.fold max (⊥ : EReal) L))
          (∑ k, Ideal.exp (L k - Finset.univ.fold max (⊥ : EReal) L)) := by
  obtain ⟨μ, hμ⟩ := max_real L hT hB
  rw [hμ]
  exact shift_real L hT hB μ j

end Cert.Softmax

end
-- ==== Proof.Network.lean ====
/- The network as plain sums over the extended reals: what one row of the inputs gives before the softmax. Both
   programs are later read as these functions of their five arguments. -/
module

public import Idealize.ShloMosaic.Lib.Pointwise
public import Idealize.ShloMosaic.PureOps.Ideal.Laws

@[expose] public section

noncomputable section

open Idealize.ShloMosaic

namespace Cert.Network

/-- The inputs, 16384 rows of 64 features. -/
abbrev Inputs := FVec Ideal (⟨2, ![16384, 64]⟩ : Shape) .f32
/-- The hidden layer's weights. -/
abbrev HiddenWeights := FVec Ideal (⟨2, ![64, 64]⟩ : Shape) .f32
/-- The hidden layer's biases. -/
abbrev HiddenBias := FVec Ideal (⟨1, ![64]⟩ : Shape) .f32
/-- The output layer's weights. -/
abbrev BinWeights := FVec Ideal (⟨2, ![64, 128]⟩ : Shape) .f32
/-- The output layer's biases, one for each of the 128 bins. -/
abbrev BinBias := FVec Ideal (⟨1, ![128]⟩ : Shape) .f32

/-- The factor one half, as both programs' literal denotes it. -/
def half : EReal := Ideal.ofBits .f32 0x3F000000#32

/-- The exact GELU, `½ z (1 + erf (z √½))`. -/
def gelu (z : EReal) : EReal := half * z * (1 + Ideal.erf (z * ((Real.sqrt (1 / 2) : ℝ) : EReal)))

/-- The hidden unit `k` of row `r` before the activation. -/
def preact (X : Inputs) (U : HiddenWeights) (b : HiddenBias) (r : Fin 16384) (k : Fin 64) : EReal :=
  (∑ a : Fin 64, X (ix2 r a) * U (ix2 a k)) + b (ix1 k)

/-- The logit of bin `j` in row `r`. -/
def logit (X : Inputs) (U : HiddenWeights) (b : HiddenBias) (W : BinWeights) (d : BinBias) (r : Fin 16384)
    (j : Fin 128) : EReal :=
  (∑ k : Fin 64, gelu (preact X U b r k) * W (ix2 k j)) + d (ix1 j)

end Cert.Network

end
-- ==== Proof.Domain.lean ====
/- What the precondition `regular` gives: of every argument, and so of every row's logits. -/
module

public import proofs.«01_k».proof.Proof.Network
public import proofs.«01_k».proof.Proof.Gen.Pre_regular
public import Idealize.ShloMosaic.Lib.ReduceAll
public import Idealize.ShloMosaic.Lib.Routing.OpsOrder

@[expose] public section

set_option maxRecDepth 16384

noncomputable section

open Idealize.ShloMosaic

namespace Cert.Domain

open Cert.Network

/-- An extended real that is a real. -/
def IsReal (x : EReal) : Prop := ∃ r : ℝ, x = r

/-- A sum of two reals is a real. -/
theorem IsReal.add {x y : EReal} : IsReal x → IsReal y → IsReal (x + y)
  | ⟨a, ha⟩, ⟨b, hb⟩ => ⟨a + b, by rw [ha, hb, EReal.coe_add]⟩

/-- A product of two reals is a real. -/
theorem IsReal.mul {x y : EReal} : IsReal x → IsReal y → IsReal (x * y)
  | ⟨a, ha⟩, ⟨b, hb⟩ => ⟨a * b, by rw [ha, hb, EReal.coe_mul]⟩

/-- A finite sum of reals is a real. -/
theorem IsReal.sum {n : ℕ} {f : Fin n → EReal} (h : ∀ k, IsReal (f k)) : IsReal (∑ k, f k) := by
  choose g hg using h
  refine Finset.sum_induction f IsReal (fun _ _ => IsReal.add) ⟨0, by simp⟩ fun k _ => ⟨g k, hg k⟩

/-- The error function of a real is a real. -/
theorem IsReal.erf {x : EReal} : IsReal x → IsReal (Ideal.erf x)
  | ⟨_, ha⟩ => by rw [ha, Ideal.erf_coe]; exact ⟨_, rfl⟩

/-- The literal of one half denotes a real. -/
theorem real_half : IsReal half :=
  ⟨1 / 2, by unfold half; simp [Ideal.ofBits, Ideal.ieee, -EReal.coe_mul]; norm_num⟩

/-- The GELU of a real is a real. -/
theorem IsReal.gelu {z : EReal} (h : IsReal z) : IsReal (gelu z) :=
  (real_half.mul h).mul (.add ⟨1, by simp⟩ (h.mul ⟨_, rfl⟩).erf)

/-- What the network needs of its arguments: inputs, weights and hidden biases are reals; a bin's bias may be minus
    infinity, which masks the bin out, but not plus infinity, and one bin at least stays unmasked. -/
structure Regular (X : Inputs) (U : HiddenWeights) (b : HiddenBias) (W : BinWeights) (d : BinBias) : Prop where
  inputs : ∀ i, IsReal (X i)
  hiddenWeights : ∀ i, IsReal (U i)
  hiddenBias : ∀ i, IsReal (b i)
  binWeights : ∀ i, IsReal (W i)
  below : ∀ i, d i ≠ ⊤
  unmasked : ∃ i, d i ≠ ⊥

section
variable {X : Inputs} {U : HiddenWeights} {b : HiddenBias} {W : BinWeights} {d : BinBias}

/-- The part of a logit before its bias is a real. -/
theorem Regular.score (h : Regular X U b W d) (r : Fin 16384) (j : Fin 128) :
    IsReal (∑ k : Fin 64, gelu (preact X U b r k) * W (ix2 k j)) :=
  .sum fun _ => (((IsReal.sum fun _ => (h.inputs _).mul (h.hiddenWeights _)).add (h.hiddenBias _)).gelu).mul (h.binWeights _)

/-- No logit is plus infinity. -/
theorem Regular.logit_ne_top (h : Regular X U b W d) (r : Fin 16384) (j : Fin 128) : logit X U b W d r j ≠ ⊤ := by
  obtain ⟨s, hs⟩ := h.score r j
  unfold logit
  rw [hs]
  exact (EReal.add_lt_top (EReal.coe_ne_top s) (h.below _)).ne

/-- In every row some logit is not minus infinity. -/
theorem Regular.logit_ne_bot (h : Regular X U b W d) (r : Fin 16384) : ∃ j, logit X U b W d r j ≠ ⊥ := by
  obtain ⟨i, hi⟩ := h.unmasked
  refine ⟨i 0, ?_⟩
  obtain ⟨s, hs⟩ := h.score r (i 0)
  have e : ix1 (i 0) = i := by funext a; fin_cases a; rfl
  unfold logit
  rw [hs]
  intro hb
  rcases EReal.add_eq_bot_iff.1 hb with h₁ | h₁
  · exact EReal.coe_ne_bot s h₁
  · exact hi ((congrArg d e).symm.trans h₁)

end

/-- The literal the comparisons read as the bound above denotes plus infinity. -/
theorem top_eq : Ideal.ofBits .f32 0x7F800000#32 = (⊤ : EReal) := by
  simp [Ideal.ofBits, Ideal.ieee]

/-- The literal the comparison reads as the bound below denotes minus infinity. -/
theorem bot_eq : Ideal.ofBits .f32 0xFF800000#32 = (⊥ : EReal) := by
  simp [Ideal.ofBits, Ideal.ieee]

/-- An absolute value compared below the literal plus infinity is a real's. -/
theorem real_of_abs {x : EReal} (h : Ideal.cmp .olt (max x (-x)) (Ideal.ofBits .f32 0x7F800000#32) = 1#1) : IsReal x := by
  rw [top_eq] at h
  have h' : max x (-x) < ⊤ := by
    by_contra hn
    simp [Ideal.cmp, hn] at h
  induction x with
  | bot => simp at h'
  | top => simp at h'
  | coe r => exact ⟨r, rfl⟩

/-- What compares below the literal plus infinity is not plus infinity. -/
theorem ne_top_of_cmp {x : EReal} (h : Ideal.cmp .olt x (Ideal.ofBits .f32 0x7F800000#32) = 1#1) : x ≠ ⊤ := by
  rintro rfl
  rw [top_eq] at h
  simp [Ideal.cmp] at h

/-- What compares above the literal minus infinity is not minus infinity. -/
theorem ne_bot_of_cmp {x : EReal} (h : Ideal.cmp .ogt x (Ideal.ofBits .f32 0xFF800000#32) = 1#1) : x ≠ ⊥ := by
  rintro rfl
  rw [bot_eq] at h
  simp [Ideal.cmp] at h

/-- A `jnp.any` that is 1 at the one index of its result had a 1 at some operand index. -/
theorem any_of_reduce {s t u : Shape} {axes : List (Fin s.rank)} (x : s.Idx → BitVec 1) (init : u.Idx → BitVec 1)
    (h : s.ReducesTo axes t) (hu : 0 < u.numel) (j : t.Idx) (h₀ : init (Shape.Idx.first hu) = 0#1)
    (e : Host.reduce IntOp.ori x init h hu j = 1#1) : ∃ i, x i = 1#1 := by
  classical
  rw [Host.reduce_eq_fold, h₀] at e
  obtain ⟨i, _, hi⟩ := (Routing.fold_ori _ _).1 e
  exact ⟨i, hi⟩

/-- The precondition, as it is stated, gives what the network needs. -/
theorem regular_of_fn (X : Inputs) (U : HiddenWeights) (b : HiddenBias) (W : BinWeights) (d : BinBias)
    (h : Cert.Pre_regular.fn (F := Ideal) X U b W d = fun _ => 1#1) : Regular X U b W d := by
  have e := congrFun h ix0
  dsimp only [Cert.Pre_regular.fn, Cert.Pre_regular.fn_part1, andi] at e
  obtain ⟨e, h₆⟩ := IntOp.andi_eq_one.1 e
  obtain ⟨e, h₅⟩ := IntOp.andi_eq_one.1 e
  obtain ⟨e, h₄⟩ := IntOp.andi_eq_one.1 e
  obtain ⟨e, h₃⟩ := IntOp.andi_eq_one.1 e
  obtain ⟨h₁, h₂⟩ := IntOp.andi_eq_one.1 e
  exact {
    inputs := fun i => real_of_abs (Host.reduce_andi_all _ _ _ _ _ h₁ i)
    hiddenWeights := fun i => real_of_abs (Host.reduce_andi_all _ _ _ _ _ h₂ i)
    hiddenBias := fun i => real_of_abs (Host.reduce_andi_all _ _ _ _ _ h₃ i)
    binWeights := fun i => real_of_abs (Host.reduce_andi_all _ _ _ _ _ h₄ i)
    below := fun i => ne_top_of_cmp (Host.reduce_andi_all _ _ _ _ _ h₅ i)
    unmasked := (any_of_reduce _ _ _ _ _ rfl h₆).imp fun _ hi => ne_bot_of_cmp hi }

end Cert.Domain

end
-- ==== Proof.KernelValue.lean ====
/- What the kernel computes: one block's payload at an index, and the array the launches leave. -/
module

public import proofs.«01_k».proof.Proof.Network
public import proofs.«01_k».proof.Proof.Gen.KernelIdeal.Value
public import Idealize.ShloMosaic.Lib.Pipeline.ValueKit
public import Idealize.ShloMosaic.PureOps.IdealRules

@[expose] public section

set_option maxRecDepth 16384

noncomputable section

open Idealize.ShloMosaic Idealize.ShloMosaic.TcCoe Idealize.SL.Sem
open Idealize.ShloMosaic.Pipeline (Dat)

namespace Cert.KernelIdeal.Masses

open Cert.KernelIdeal Cert.KernelIdeal.Gen Cert.Network

variable (m : (ℓ : Loc nD τ sig) → Buf (Elt Ideal) ℓ)

/-- The named constant of the kernel is the square root of one half. -/
theorem sqrt_half :
    Named.named (F := Ideal) Cert.KernelIdeal.κ "sqrt_half" (φ := .f32) 0x3F3504F3#32 = ((Real.sqrt (1 / 2) : ℝ) : EReal) :=
  IdealRules.named_const.ideal_named_scalar _ _ _ _ rfl

/-- The softmax of the kernel, without the shift by the maximum: the exponential times the reciprocal of the sum. -/
def masses (X : Inputs) (U : HiddenWeights) (b : HiddenBias) (W : BinWeights) (d : BinBias) :
    FVec Ideal (⟨2, ![16384, 128]⟩ : Shape) .f32 := fun i =>
  Ideal.exp (logit X U b W d (i 0) (i 1)) * Ideal.div 1 (∑ k : Fin 128, Ideal.exp (logit X U b W d (i 0) k))

/-- Where each window's block lies at a grid point: the inputs and the result move down by one block of rows a point,
    the weights and biases stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- One block's payload is the stated softmax at the place where the block lies in the result. -/
theorem point (c : Dev nD) (t : Fin cfg0.N) (y) :
    k0_pay1 (iblk m c 0 t) (iblk m c 1 t) (iblk m c 2 t) (iblk m c 3 t) (iblk m c 4 t) y
    = masses (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, masses, logit, preact, gelu, half]
  simp only [sqrt_half, Ideal.erf_def]
  blk_point [iblk, V, idx t]

/-- The result array after the whole grid is the stated softmax of the arguments. -/
theorem final (c : Dev nD) : (dats m 0 c).arrAt 5 (cfgs 0).N
    = masses (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.KernelIdeal.Masses

end
-- ==== Proof.ReferenceValue.lean ====
/- What the reference computes: its term at an index, as the softmax shifted by the maximum of the row's logits. -/
module

public import proofs.«01_k».proof.Proof.Network
public import proofs.«01_k».proof.Proof.Gen.ReferenceIdeal.Run
public import Idealize.ShloMosaic.Lib.Pointwise
public import Idealize.ShloMosaic.Lib.Tactic.CleanTypes
public import Idealize.ShloMosaic.PureOps.Ideal.Laws

@[expose] public section

set_option maxRecDepth 16384

noncomputable section

open Idealize.ShloMosaic Idealize.ShloMosaic.TcCoe Idealize.SL.Sem

namespace Cert.ReferenceIdeal.Masses

open Cert.ReferenceIdeal Cert.ReferenceIdeal.Gen Cert.Network

/-- The literal of one half denotes the real one half. -/
theorem half_eq : Ideal.ofBits .f32 0x3F000000#32 = ((1 / 2 : ℝ) : EReal) := by
  simp [Ideal.ofBits, Ideal.ieee, -EReal.coe_mul]; norm_num

/-- The literal where the maximum starts denotes minus infinity. -/
theorem bottom_eq : Ideal.ofBits .f32 0xFF800000#32 = (⊥ : EReal) := by
  simp [Ideal.ofBits, Ideal.ieee]

/-- The reference's activation, `½ z · erfc (-z √½)`, is the exact GELU. -/
theorem gelu_eq (z : EReal) :
    half * z * Ideal.erfc (-z * Ideal.sqrt half) = gelu z := by
  have h : Ideal.sqrt half = ((Real.sqrt (1 / 2) : ℝ) : EReal) := by
    unfold half; rw [half_eq, Ideal.sqrt_coe]; rw [if_neg (by norm_num)]
  rw [h, EReal.neg_mul, Ideal.erfc_neg]
  rfl

/-- The softmax of the reference: the exponents shifted by the row's maximum, the quotient by the sum. -/
def masses (X : Inputs) (U : HiddenWeights) (b : HiddenBias) (W : BinWeights) (d : BinBias) :
    FVec Ideal (⟨2, ![16384, 128]⟩ : Shape) .f32 := fun i =>
  Ideal.div
    (Ideal.exp (logit X U b W d (i 0) (i 1) - Finset.univ.fold max (⊥ : EReal) fun k => logit X U b W d (i 0) k))
    (∑ k : Fin 128, Ideal.exp (logit X U b W d (i 0) k - Finset.univ.fold max (⊥ : EReal) fun k => logit X U b W d (i 0) k))

variable (m : (ℓ : Loc nD τ sig) → Buf (Elt Ideal) ℓ)

/-- The reference's result is that softmax of its arguments. -/
theorem value (c : Dev nD) : Value.res_out0 (F := Ideal) m c
    = masses (m ((c : Thread nD τ).loc main_arg0)) (m ((c : Thread nD τ).loc main_arg1)) (m ((c : Thread nD τ).loc main_arg2))
        (m ((c : Thread nD τ).loc main_arg3)) (m ((c : Thread nD τ).loc main_arg4)) := by
  unfold Value.res_out0 Value.res_main_v26
  clean_types
  funext i
  pointwise [masses, logit, preact]
  simp only [bottom_eq, ← gelu_eq, half, bot_le, max_eq_right]

end Cert.ReferenceIdeal.Masses

end
-- ==== Proof.Equation.lean ====
/- The equation: under the precondition the kernel's softmax is the reference's. -/
module

public import proofs.«01_k».proof.Proof.Softmax
public import proofs.«01_k».proof.Proof.Domain
public import proofs.«01_k».proof.Proof.KernelValue
public import proofs.«01_k».proof.Proof.ReferenceValue

@[expose] public section

noncomputable section

open Idealize.ShloMosaic

namespace Cert.Equation

open Cert.Network

/-- On regular arguments the unshifted softmax of the kernel and the shifted one of the reference are one array. -/
theorem masses_eq {X : Inputs} {U : HiddenWeights} {b : HiddenBias} {W : BinWeights} {d : BinBias}
    (h : Cert.Domain.Regular X U b W d) :
    Cert.KernelIdeal.Masses.masses X U b W d = Cert.ReferenceIdeal.Masses.masses X U b W d := by
  funext i
  exact Cert.Softmax.shift_max (fun k => logit X U b W d (i 0) k) (h.logit_ne_top _) (h.logit_ne_bot _) (i 1)

end Cert.Equation

end
-- ==== Proof.lean ====
/- The certificate: the three frames, the named constant, and the equation of the kernel with the reference. The
   mathematics is in Proof/; this file puts it together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_regular
public import proofs.«01_k».proof.Proof.Gen.ReferenceIdeal.Run
public import proofs.«01_k».proof.Proof.Equation
public import Idealize.ShloMosaic.Adequacy
public import Idealize.ShloMosaic.Init
public import Idealize.ShloMosaic.Lib.Quiescent
public import Idealize.ShloMosaic.PureOps.IdealRules

@[expose] public section

noncomputable section

namespace Cert.Proof

open Idealize.ShloMosaic Idealize.SL.Sem

/-- The reference terminates, keeps its arguments, and leaves every semaphore at zero: it has none. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On regular arguments the kernel and the reference, over the extended reals, end with one result. -/
theorem same_result : Cert.algebraic_KernelIdeal_ReferenceIdeal_pre_regular := by
  intro m ρ m' ρ' hpre hargs
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hargs c
  refine (Cert.ReferenceIdeal.Masses.value m' c).trans ?_
  rw [h0, h1, h2, h3, h4]
  exact ((Cert.KernelIdeal.Masses.final m c).trans
    (Cert.Equation.masses_eq (Cert.Domain.regular_of_fn _ _ _ _ _ (hpre c)))).symm

/-- Everything the certificate claims. -/
theorem claim : Cert.Claim :=
  ⟨Cert.Kernel.Gen.facts, Cert.KernelIdeal.Gen.facts, Cert.ReferenceIdeal.Gen.facts, Cert.Pre_regular.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "sqrt_half" .f32 0x3F3504F3#32 ((Real.sqrt (1 / 2) : ℝ) : EReal) rfl,
    same_result⟩

end Cert.Proof

end
